-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_the_grid [hPre_on_the_grid : Cert.Pre_on_the_grid.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_on_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_on_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_on_the_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_grid [hPre_on_the_grid : Cert.Pre_on_the_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_on_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_on_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_on_the_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_on_the_grid [hKernelIdeal : Cert.KernelIdeal.Facts] [hPre_on_the_grid : Cert.Pre_on_the_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_the_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_on_the_grid [hReferenceIdeal : Cert.ReferenceIdeal.Facts] [hPre_on_the_grid : Cert.Pre_on_the_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_on_the_grid [hKernelIdeal : Cert.KernelIdeal.Facts] [hReferenceIdeal : Cert.ReferenceIdeal.Facts] [hPre_on_the_grid : Cert.Pre_on_the_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_the_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_on_the_grid : Cert.Pre_on_the_grid.Facts),
    quiescent_Kernel (hKernel := hKernel)
    ∧ quiescent_KernelIdeal (hKernelIdeal := hKernelIdeal)
    ∧ quiescent_KernelIdeal_pre_on_the_grid (hKernelIdeal := hKernelIdeal) (hPre_on_the_grid := hPre_on_the_grid)
    ∧ quiescent_ReferenceIdeal (hReferenceIdeal := hReferenceIdeal)
    ∧ quiescent_ReferenceIdeal_pre_on_the_grid (hReferenceIdeal := hReferenceIdeal) (hPre_on_the_grid := hPre_on_the_grid)
    ∧ preserves_Kernel_KernelIdeal
    ∧ algebraic_KernelIdeal_ReferenceIdeal_pre_on_the_grid (hKernelIdeal := hKernelIdeal) (hReferenceIdeal := hReferenceIdeal) (hPre_on_the_grid := hPre_on_the_grid)
-- ==== Pre_on_the_grid.lean ====
abbrev S8x2048x2048 : Shape := ⟨3, ![8, 2048, 2048]⟩
abbrev S8x2048x2 : Shape := ⟨3, ![8, 2048, 2]⟩
abbrev S256x256 : Shape := ⟨2, ![256, 256]⟩
abbrev S_ : Shape := ⟨0, ![]⟩
abbrev S8x2048x1 : Shape := ⟨3, ![8, 2048, 1]⟩
abbrev S8x2048 : Shape := ⟨2, ![8, 2048]⟩

class Facts : Prop where
  bcast_S_S8x2048x2048 : S_.BroadcastsInDim S8x2048x2048 (![] : Fin 0 → Fin S8x2048x2048.rank)
  bcast_S_S8x2048x2 : S_.BroadcastsInDim S8x2048x2 (![] : Fin 0 → Fin S8x2048x2.rank)
  slices_S8x2048x2_S8x2048x1_0_0_1 : S8x2048x2.Slices ![0, 0, 1] S8x2048x1
  shapeCasts_S8x2048x1_S8x2048 : S8x2048x1.ShapeCasts S8x2048
  bcast_S_S8x2048 : S_.BroadcastsInDim S8x2048 (![] : Fin 0 → Fin S8x2048.rank)
  bcast_S_S256x256 : S_.BroadcastsInDim S256x256 (![] : Fin 0 → Fin S256x256.rank)

variable [Facts]

def fn {F : FTy → Type} [FloatOps F] (main_arg0 : FVec F S8x2048x2048 .f32) (main_arg1 : FVec F S8x2048x2 .f32) (main_arg2 : FVec F S256x256 .f32) : IVec S8x2048x2048 1 × IVec S8x2048x2 1 × IVec S8x2048 1 × IVec S256x256 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_cst_0 : FVec F S_ .f32 := constant S_ .f32 0xBF800000#32
  let main_v3 : FVec F S8x2048x2 .f32 := broadcastInDim S8x2048x2 ![] bcast_S_S8x2048x2 main_cst_0
  let main_v4 : IVec S8x2048x2 1 := cmpf .oge main_arg1 main_v3
  let main_cst_1 : FVec F S_ .f32 := constant S_ .f32 0x4B000000#32
  let main_v5 : FVec F S8x2048x2 .f32 := broadcastInDim S8x2048x2 ![] bcast_S_S8x2048x2 main_cst_1
  let main_v6 : IVec S8x2048x2 1 := cmpf .ole main_arg1 main_v5
  let main_v7 : IVec S8x2048x2 1 := andi main_v4 main_v6
  let main_v8 : FVec F S8x2048x1 .f32 := (extractStridedSlice S8x2048x1 ![0, 0, 1] · slices_S8x2048x2_S8x2048x1_0_0_1) main_arg1
  let main_v9 : FVec F S8x2048 .f32 := shapeCast S8x2048 main_v8 shapeCasts_S8x2048x1_S8x2048
  let main_cst_2 : FVec F S_ .f32 := constant S_ .f32 0x3F600000#32
  let main_v10 : FVec F S8x2048 .f32 := broadcastInDim S8x2048 ![] bcast_S_S8x2048 main_cst_2
  let main_v11 : IVec S8x2048 1 := cmpf .ole main_v9 main_v10
  let main_v12 : FVec F S256x256 .f32 := Host.absf main_arg2
  let main_cst_3 : FVec F S_ .f32 := constant S_ .f32 0x7F800000#32
  let main_v13 : FVec F S256x256 .f32 := broadcastInDim S256x256 ![] bcast_S_S256x256 main_cst_3
  let main_v14 : IVec S256x256 1 := cmpf .olt main_v12 main_v13
  (main_v2, main_v7, main_v11, main_v14)
-- ==== Kernel.lean ====
abbrev S8x2048x2048 : Shape := ⟨3, ![8, 2048, 2048]⟩
abbrev S8x2048x2 : Shape := ⟨3, ![8, 2048, 2]⟩
abbrev S256x256 : Shape := ⟨2, ![256, 256]⟩
abbrev S8x256x2048 : Shape := ⟨3, ![8, 256, 2048]⟩
abbrev S1x2048x2 : Shape := ⟨3, ![1, 2048, 2]⟩
abbrev S1x2048x2048 : Shape := ⟨3, ![1, 2048, 2048]⟩
abbrev S1x256x2048 : Shape := ⟨3, ![1, 256, 2048]⟩
abbrev S2048x2 : Shape := ⟨2, ![2048, 2]⟩
abbrev S2048x1 : Shape := ⟨2, ![2048, 1]⟩
abbrev S1x256 : Shape := ⟨2, ![1, 256]⟩
abbrev S2048x256 : Shape := ⟨2, ![2048, 256]⟩
abbrev S2048x2048 : Shape := ⟨2, ![2048, 2048]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2, .f32⟩
  | .hbm, ⟨2, _⟩ => ⟨S256x256, .f32⟩
  | .hbm, ⟨3, _⟩ => ⟨S256x256, .f32⟩
  | .hbm, ⟨4, _⟩ => ⟨S8x256x2048, .f32⟩
  | .local _ .vmem, ⟨0, _⟩ => ⟨S1x2048x2, .f32⟩
  | .local _ .vmem, ⟨1, _⟩ => ⟨S1x2048x2, .f32⟩
  | .local _ .vmem, ⟨2, _⟩ => ⟨S1x2048x2048, .f32⟩
  | .local _ .vmem, ⟨3, _⟩ => ⟨S1x2048x2048, .f32⟩
  | .local _ .vmem, ⟨4, _⟩ => ⟨S256x256, .f32⟩
  | .local _ .vmem, ⟨5, _⟩ => ⟨S1x256x2048, .f32⟩
  | .local _ .vmem, ⟨6, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x2048x2048 : Shape := ⟨3, ![8, 2048, 2048]⟩
abbrev S8x2048x2 : Shape := ⟨3, ![8, 2048, 2]⟩
abbrev S256x256 : Shape := ⟨2, ![256, 256]⟩
abbrev S2 : Shape := ⟨1, ![2]⟩
abbrev S_ : Shape := ⟨0, ![]⟩
abbrev S1x1x2 : Shape := ⟨3, ![1, 1, 2]⟩
abbrev S8x2048x1 : Shape := ⟨3, ![8, 2048, 1]⟩
abbrev S8x2048 : Shape := ⟨2, ![8, 2048]⟩
abbrev S8x256x2048 : Shape := ⟨3, ![8, 256, 2048]⟩
abbrev S8 : Shape := ⟨1, ![8]⟩
abbrev S8x1 : Shape := ⟨2, ![8, 1]⟩
abbrev S256x8x2048 : Shape := ⟨3, ![256, 8, 2048]⟩

abbrev nBuf : Space → Nat
  | .hbm => 173
  | .vmem => 0
  | .smem => 0
  | _ => 0

abbrev hbmTy0_0 (i : Nat) : BufTy := match i % 128 with
  | 0 => ⟨S8x2048x2048, .f32⟩
  | 1 => ⟨S8x2048x2, .f32⟩
  | 2 => ⟨S256x256, .f32⟩
  | 3 => ⟨S2, .f32⟩
  | 4 => ⟨S_, .f32⟩
  | 5 => ⟨S8x2048x2, .f32⟩
  | 6 => ⟨S8x2048x2, .f32⟩
  | 7 => ⟨S1x1x2, .f32⟩
  | 8 => ⟨S8x2048x2, .f32⟩
  | 9 => ⟨S8x2048x2, .f32⟩
  | 10 => ⟨S_, .f32⟩
  | 11 => ⟨S8x2048x2, .f32⟩
  | 12 => ⟨S8x2048x2, .f32⟩
  | 13 => ⟨S8x2048x1, .f32⟩
  | 14 => ⟨S8x2048, .f32⟩
  | 15 => ⟨S8x2048, .f32⟩
  | 16 => ⟨S8x2048, .i32⟩
  | 17 => ⟨S8x2048, .f32⟩
  | 18 => ⟨S8x2048, .i32⟩
  | 19 => ⟨S8x2048, .f32⟩
  | 20 => ⟨S8x2048, .f32⟩
  | 21 => ⟨S_, .f32⟩
  | 22 => ⟨S8x2048, .f32⟩
  | 23 => ⟨S8x2048, .f32⟩
  | 24 => ⟨S8x2048x1, .f32⟩
  | 25 => ⟨S8x2048, .f32⟩
  | 26 => ⟨S8x2048, .f32⟩
  | 27 => ⟨S8x2048, .i32⟩
  | 28 => ⟨S8x2048, .f32⟩
  | 29 => ⟨S8x2048, .i32⟩
  | 30 => ⟨S8x2048, .f32⟩
  | 31 => ⟨S8x2048, .f32⟩
  | 32 => ⟨S_, .f32⟩
  | 33 => ⟨S8x2048, .f32⟩
  | 34 => ⟨S8x2048, .f32⟩
  | 35 => ⟨S_, .f32⟩
  | 36 => ⟨S8x256x2048, .f32⟩
  | 37 => ⟨S8, .i32⟩
  | 38 => ⟨S8x1, .i32⟩
  | 39 => ⟨S8x2048, .f32⟩
  | 40 => ⟨S_, .i32⟩
  | 41 => ⟨S8x2048, .i32⟩
  | 42 => ⟨S8x2048, .i32⟩
  | 43 => ⟨S_, .i32⟩
  | 44 => ⟨S8x2048, .i32⟩
  | 45 => ⟨S8x2048, .i32⟩
  | 46 => ⟨S_, .i32⟩
  | 47 => ⟨S8x2048, .i32⟩
  | 48 => ⟨S8x2048, .i32⟩
  | 49 => ⟨S8x2048, .i32⟩
  | 50 => ⟨S8x2048x1, .f32⟩
  | 51 => ⟨S8x2048x2048, .f32⟩
  | 52 => ⟨S8x2048x2048, .f32⟩
  | 53 => ⟨S_, .i32⟩
  | 54 => ⟨S8x1, .i32⟩
  | 55 => ⟨S8x1, .i1⟩
  | 56 => ⟨S_, .i32⟩
  | 57 => ⟨S8x1, .i32⟩
  | 58 => ⟨S8x1, .i32⟩
  | 59 => ⟨S8x1, .i32⟩
  | 60 => ⟨S_, .i32⟩
  | 61 => ⟨S8x2048, .i32⟩
  | 62 => ⟨S8x2048, .i1⟩
  | 63 => ⟨S_, .i32⟩
  | 64 => ⟨S8x2048, .i32⟩
  | 65 => ⟨S8x2048, .i32⟩
  | 66 => ⟨S8x2048, .i32⟩
  | 67 => ⟨S8x2048, .i32⟩
  | 68 => ⟨S8x2048x1, .i32⟩
  | 69 => ⟨S8x2048x1, .i32⟩
  | 70 => ⟨S8x2048x2, .i32⟩
  | 71 => ⟨S8x256x2048, .f32⟩
  | 72 => ⟨S8x2048, .f32⟩
  | 73 => ⟨S_, .i32⟩
  | 74 => ⟨S8x2048, .i32⟩
  | 75 => ⟨S8x2048, .i32⟩
  | 76 => ⟨S_, .i32⟩
  | 77 => ⟨S8x2048, .i32⟩
  | 78 => ⟨S8x2048, .i32⟩
  | 79 => ⟨S_, .i32⟩
  | 80 => ⟨S8x2048, .i32⟩
  | 81 => ⟨S8x2048, .i32⟩
  | 82 => ⟨S8x2048, .i32⟩
  | 83 => ⟨S8x2048x1, .f32⟩
  | 84 => ⟨S8x2048x2048, .f32⟩
  | 85 => ⟨S8x2048x2048, .f32⟩
  | 86 => ⟨S_, .i32⟩
  | 87 => ⟨S8x1, .i32⟩
  | 88 => ⟨S8x1, .i1⟩
  | 89 => ⟨S_, .i32⟩
  | 90 => ⟨S8x1, .i32⟩
  | 91 => ⟨S8x1, .i32⟩
  | 92 => ⟨S8x1, .i32⟩
  | 93 => ⟨S_, .i32⟩
  | 94 => ⟨S8x2048, .i32⟩
  | 95 => ⟨S8x2048, .i1⟩
  | 96 => ⟨S_, .i32⟩
  | 97 => ⟨S8x2048, .i32⟩
  | 98 => ⟨S8x2048, .i32⟩
  | 99 => ⟨S8x2048, .i32⟩
  | 100 => ⟨S8x2048, .i32⟩
  | 101 => ⟨S8x2048x1, .i32⟩
  | 102 => ⟨S8x2048x1, .i32⟩
  | 103 => ⟨S8x2048x2, .i32⟩
  | 104 => ⟨S8x256x2048, .f32⟩
  | 105 => ⟨S8x2048, .f32⟩
  | 106 => ⟨S_, .i32⟩
  | 107 => ⟨S8x2048, .i32⟩
  | 108 => ⟨S8x2048, .i32⟩
  | 109 => ⟨S_, .i32⟩
  | 110 => ⟨S8x2048, .i32⟩
  | 111 => ⟨S8x2048, .i32⟩
  | 112 => ⟨S_, .i32⟩
  | 113 => ⟨S8x2048, .i32⟩
  | 114 => ⟨S8x2048, .i32⟩
  | 115 => ⟨S8x2048, .i32⟩
  | 116 => ⟨S8x2048x1, .f32⟩
  | 117 => ⟨S8x2048x2048, .f32⟩
  | 118 => ⟨S8x2048x2048, .f32⟩
  | 119 => ⟨S_, .i32⟩
  | 120 => ⟨S8x1, .i32⟩
  | 121 => ⟨S8x1, .i1⟩
  | 122 => ⟨S_, .i32⟩
  | 123 => ⟨S8x1, .i32⟩
  | 124 => ⟨S8x1, .i32⟩
  | 125 => ⟨S8x1, .i32⟩
  | 126 => ⟨S_, .i32⟩
  | 127 => ⟨S8x2048, .i32⟩
  | _ => ⟨S8x2048x2048, .f32⟩

abbrev hbmTy0_1 (i : Nat) : BufTy := match i % 128 with
  | 0 => ⟨S8x2048, .i1⟩
  | 1 => ⟨S_, .i32⟩
  | 2 => ⟨S8x2048, .i32⟩
  | 3 => ⟨S8x2048, .i32⟩
  | 4 => ⟨S8x2048, .i32⟩
  | 5 => ⟨S8x2048, .i32⟩
  | 6 => ⟨S8x2048x1, .i32⟩
  | 7 => ⟨S8x2048x1, .i32⟩
  | 8 => ⟨S8x2048x2, .i32⟩
  | 9 => ⟨S8x256x2048, .f32⟩
  | 10 => ⟨S8x2048, .f32⟩
  | 11 => ⟨S_, .i32⟩
  | 12 => ⟨S8x2048, .i32⟩
  | 13 => ⟨S8x2048, .i32⟩
  | 14 => ⟨S_, .i32⟩
  | 15 => ⟨S8x2048, .i32⟩
  | 16 => ⟨S8x2048, .i32⟩
  | 17 => ⟨S_, .i32⟩
  | 18 => ⟨S8x2048, .i32⟩
  | 19 => ⟨S8x2048, .i32⟩
  | 20 => ⟨S8x2048, .i32⟩
  | 21 => ⟨S8x2048x1, .f32⟩
  | 22 => ⟨S8x2048x2048, .f32⟩
  | 23 => ⟨S8x2048x2048, .f32⟩
  | 24 => ⟨S_, .i32⟩
  | 25 => ⟨S8x1, .i32⟩
  | 26 => ⟨S8x1, .i1⟩
  | 27 => ⟨S_, .i32⟩
  | 28 => ⟨S8x1, .i32⟩
  | 29 => ⟨S8x1, .i32⟩
  | 30 => ⟨S8x1, .i32⟩
  | 31 => ⟨S_, .i32⟩
  | 32 => ⟨S8x2048, .i32⟩
  | 33 => ⟨S8x2048, .i1⟩
  | 34 => ⟨S_, .i32⟩
  | 35 => ⟨S8x2048, .i32⟩
  | 36 => ⟨S8x2048, .i32⟩
  | 37 => ⟨S8x2048, .i32⟩
  | 38 => ⟨S8x2048, .i32⟩
  | 39 => ⟨S8x2048x1, .i32⟩
  | 40 => ⟨S8x2048x1, .i32⟩
  | 41 => ⟨S8x2048x2, .i32⟩
  | 42 => ⟨S8x256x2048, .f32⟩
  | 43 => ⟨S256x8x2048, .f32⟩
  | 44 => ⟨S8x256x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_c_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_11 : Ref sig .tc := ⟨.hbm, 73, rfl⟩
abbrev main_v57 : Ref sig .tc := ⟨.hbm, 74, rfl⟩
abbrev main_v58 : Ref sig .tc := ⟨.hbm, 75, rfl⟩
abbrev main_c_12 : Ref sig .tc := ⟨.hbm, 76, rfl⟩
abbrev main_v59 : Ref sig .tc := ⟨.hbm, 77, rfl⟩
abbrev main_v60 : Ref sig .tc := ⟨.hbm, 78, rfl⟩
abbrev main_c_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_14 : Ref sig .tc := ⟨.hbm, 86, rfl⟩
abbrev main_v67 : Ref sig .tc := ⟨.hbm, 87, rfl⟩
abbrev main_v68 : Ref sig .tc := ⟨.hbm, 88, rfl⟩
abbrev main_c_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_16 : Ref sig .tc := ⟨.hbm, 93, rfl⟩
abbrev main_v72 : Ref sig .tc := ⟨.hbm, 94, rfl⟩
abbrev main_v73 : Ref sig .tc := ⟨.hbm, 95, rfl⟩
abbrev main_c_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_18 : Ref sig .tc := ⟨.hbm, 106, rfl⟩
abbrev main_v83 : Ref sig .tc := ⟨.hbm, 107, rfl⟩
abbrev main_v84 : Ref sig .tc := ⟨.hbm, 108, rfl⟩
abbrev main_c_19 : Ref sig .tc := ⟨.hbm, 109, rfl⟩
abbrev main_v85 : Ref sig .tc := ⟨.hbm, 110, rfl⟩
abbrev main_v86 : Ref sig .tc := ⟨.hbm, 111, rfl⟩
abbrev main_c_20 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_21 : Ref sig .tc := ⟨.hbm, 119, rfl⟩
abbrev main_v93 : Ref sig .tc := ⟨.hbm, 120, rfl⟩
abbrev main_v94 : Ref sig .tc := ⟨.hbm, 121, rfl⟩
abbrev main_c_22 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_23 : Ref sig .tc := ⟨.hbm, 126, rfl⟩
abbrev main_v98 : Ref sig .tc := ⟨.hbm, 127, rfl⟩
abbrev main_v99 : Ref sig .tc := ⟨.hbm, 128, rfl⟩
abbrev main_c_24 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_25 : Ref sig .tc := ⟨.hbm, 139, rfl⟩
abbrev main_v109 : Ref sig .tc := ⟨.hbm, 140, rfl⟩
abbrev main_v110 : Ref sig .tc := ⟨.hbm, 141, rfl⟩
abbrev main_c_26 : Ref sig .tc := ⟨.hbm, 142, rfl⟩
abbrev main_v111 : Ref sig .tc := ⟨.hbm, 143, rfl⟩
abbrev main_v112 : Ref sig .tc := ⟨.hbm, 144, rfl⟩
abbrev main_c_27 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_28 : Ref sig .tc := ⟨.hbm, 152, rfl⟩
abbrev main_v119 : Ref sig .tc := ⟨.hbm, 153, rfl⟩
abbrev main_v120 : Ref sig .tc := ⟨.hbm, 154, rfl⟩
abbrev main_c_29 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_30 : Ref sig .tc := ⟨.hbm, 159, rfl⟩
abbrev main_v124 : Ref sig .tc := ⟨.hbm, 160, rfl⟩
abbrev main_v125 : Ref sig .tc := ⟨.hbm, 161, rfl⟩
abbrev main_c_31 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩

abbrev nD : Nat := 1
abbrev τ : Topo := Topo.v7x

variable {F : FTy → Type} [FloatOps F]
-- ==== Proof.Consts.lean ====
/- The float constants of the two programs as real numbers. -/
module

public import Idealize.ShloMosaic.Lib.Pointwise

@[expose] public section

noncomputable section

namespace Cert.Merge

open Idealize.ShloMosaic

/-- The pattern `0x41000000` is eight. -/
theorem bits_eight : Ideal.ofBits .f32 0x41000000#32 = ((8 : ℝ) : EReal) := by
  simp [Ideal.ofBits, Ideal.ieee, -EReal.coe_mul]; norm_num

/-- The pattern `0x41800000` is sixteen. -/
theorem bits_sixteen : Ideal.ofBits .f32 0x41800000#32 = ((16 : ℝ) : EReal) := by
  simp [Ideal.ofBits, Ideal.ieee, -EReal.coe_mul]; norm_num

/-- The pattern `0x40000000` is two. -/
theorem bits_two : Ideal.ofBits .f32 0x40000000#32 = ((2 : ℝ) : EReal) := by
  simp [Ideal.ofBits, Ideal.ieee, -EReal.coe_mul]; norm_num

/-- The pattern `0xBF800000` is minus one. -/
theorem bits_neg_one : Ideal.ofBits .f32 0xBF800000#32 = ((-1 : ℝ) : EReal) := by
  simp [Ideal.ofBits, Ideal.ieee, -EReal.coe_mul, -EReal.coe_neg]; norm_num

/-- The pattern `0x3F600000` is seven eighths. -/
theorem bits_seven_eighths : Ideal.ofBits .f32 0x3F600000#32 = ((7 / 8 : ℝ) : EReal) := by
  simp [Ideal.ofBits, Ideal.ieee, -EReal.coe_mul]; norm_num

/-- The pattern `0x7F800000` is plus infinity. -/
theorem bits_top : Ideal.ofBits .f32 0x7F800000#32 = ⊤ := by simp [Ideal.ofBits, Ideal.ieee]

/-- The pattern `0x4B000000` is two to the 23rd. -/
theorem bits_far : Ideal.ofBits .f32 0x4B000000#32 = ((8388608 : ℝ) : EReal) := by
  simp [Ideal.ofBits, Ideal.ieee, -EReal.coe_mul]

/-- The bound on a grid line's number under which the flat cell's number fits its word. -/
abbrev far : ℤ := 67108872

/-- Converting a real integer between 0 and the bound to a word gives the natural number's word. -/
theorem fptosi_eq (z : ℤ) (h0 : 0 ≤ z) (h1 : z ≤ far) : Ideal.fptosi 32 (((z : ℝ)) : EReal) = BitVec.ofNat 32 z.toNat := by
  rw [Ideal.fptosi, Ideal.toIntClamped_coe]
  have hz : (if (0 : ℝ) ≤ (z : ℝ) then ⌊(z : ℝ)⌋ else ⌈(z : ℝ)⌉) = z := by simp
  have hc : max (-((2 ^ (32 - 1) : ℕ) : ℤ)) (min (((2 ^ (32 - 1) : ℕ) : ℤ) - 1) z) = z := by
    unfold far at h1
    omega
  rw [hz, hc]
  obtain ⟨n, rfl⟩ := Int.eq_ofNat_of_zero_le h0
  rw [BitVec.ofInt_natCast, Int.toNat_natCast]

/-- Reading the word back gives that integer. -/
theorem toInt_fptosi (z : ℤ) (h0 : 0 ≤ z) (h1 : z ≤ far) : (Ideal.fptosi 32 (((z : ℝ)) : EReal)).toInt = z := by
  rw [fptosi_eq z h0 h1, BitVec.toInt_eq_toNat_cond, BitVec.toNat_ofNat]
  unfold far at h1
  omega

end Cert.Merge

end
-- ==== Proof.RefTerm.lean ====
/- The reference's result term, cut into named pieces: positions on the grid, the lines below and above, the weights, and the four scatters. -/
module

public import proofs.«01_k».proof.Proof.Gen.ReferenceIdeal.Run
public import proofs.«01_k».proof.Proof.Consts

@[expose] public section

noncomputable section

namespace Cert.Merge.Ref

open Cert.ReferenceIdeal Cert.ReferenceIdeal.Gen Idealize.ShloMosaic Idealize.ShloMosaic.TcCoe Idealize.SL.Sem

/-- Positions in units of grid lines. -/
def pos (P : FVec Ideal S8x2048x2 .f32) : FVec Ideal S8x2048x2 .f32 :=
  Host.divf (mulf (addf P (broadcastInDim S8x2048x2 ![] bcast_S_S8x2048x2 (constant S_ .f32 0x3F800000#32))) (broadcastInDim S8x2048x2 ![0, 1, 2] bcast_S1x1x2_S8x2048x2_0_1_2 (broadcastInDim S1x1x2 ![2] bcast_S2_S1x1x2_2 (constant S2 .f32 0x41800000#32)))) (broadcastInDim S8x2048x2 ![] bcast_S_S8x2048x2 (constant S_ .f32 0x40000000#32))

/-- The row coordinate. -/
def row (P : FVec Ideal S8x2048x2 .f32) : FVec Ideal S8x2048 .f32 :=
  shapeCast _ (extractStridedSlice S8x2048x1 ![0, 0, 0] (pos P) slices_S8x2048x2_S8x2048x1_0_0_0) shapeCasts_S8x2048x1_S8x2048

/-- The column coordinate. -/
def col (P : FVec Ideal S8x2048x2 .f32) : FVec Ideal S8x2048 .f32 :=
  shapeCast _ (extractStridedSlice S8x2048x1 ![0, 0, 1] (pos P) slices_S8x2048x2_S8x2048x1_0_0_1) shapeCasts_S8x2048x1_S8x2048

/-- The line at or below a coordinate. -/
def lo (d : FVec Ideal S8x2048 .f32) : IVec S8x2048 32 := fptosi 32 (Host.floor d)

/-- The line at or above a coordinate. -/
def hi (d : FVec Ideal S8x2048 .f32) : IVec S8x2048 32 := fptosi 32 (Host.ceil d)

/-- The weight of the upper line. -/
def wHi (d : FVec Ideal S8x2048 .f32) : FVec Ideal S8x2048 .f32 := subf d (sitofp .f32 (lo d))

/-- The weight of the lower line. -/
def wLo (d : FVec Ideal S8x2048 .f32) : FVec Ideal S8x2048 .f32 :=
  subf (broadcastInDim S8x2048 ![] bcast_S_S8x2048 (constant S_ .f32 0x3F800000#32)) (wHi d)

/-- The flat cell of two lines. -/
def flat (i j : IVec S8x2048 32) : IVec S8x2048 32 :=
  addi (addi (broadcastInDim S8x2048 ![] bcast_S_S8x2048 (constantI S_ 32 0#32)) (muli i (broadcastInDim S8x2048 ![] bcast_S_S8x2048 (constantI S_ 32 16#32)))) (muli j (broadcastInDim S8x2048 ![] bcast_S_S8x2048 (constantI S_ 32 1#32)))

/-- The batch numbers, wrapped as an index. -/
def batch : IVec S8x1 32 :=
  select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0))

/-- A flat cell, wrapped as an index. -/
def wrapped (f : IVec S8x2048 32) : IVec S8x2048 32 :=
  select (cmpi .slt f (broadcastInDim S8x2048 ![] bcast_S_S8x2048 (constantI S_ 32 0#32))) (addi f (broadcastInDim S8x2048 ![] bcast_S_S8x2048 (constantI S_ 32 256#32))) f

/-- The pairs (batch, cell) at which a scatter adds. -/
def pairs (f : IVec S8x2048 32) : IVec S8x2048x2 32 :=
  concatenate S8x2048x2 2 [⟨S8x2048x1, broadcastInDim S8x2048x1 ![0, 1] bcast_S8x2048_S8x2048x1_0_1 (broadcastInDim S8x2048 ![0, 1] bcast_S8x1_S8x2048_0_1 batch)⟩, ⟨S8x2048x1, broadcastInDim S8x2048x1 ![0, 1] bcast_S8x2048_S8x2048x1_0_1 (wrapped f)⟩] concatenates_S8x2048x1_S8x2048x1_S8x2048x2_d2

/-- The weighted channels that a scatter adds. -/
def contrib (X : FVec Ideal S8x2048x2048 .f32) (w v : FVec Ideal S8x2048 .f32) : FVec Ideal S8x2048x2048 .f32 :=
  mulf X (broadcastInDim S8x2048x2048 ![0, 1, 2] bcast_S8x2048x1_S8x2048x2048_0_1_2 (broadcastInDim S8x2048x1 ![0, 1] bcast_S8x2048_S8x2048x1_0_1 (mulf w v)))

/-- One of the four scatters. -/
def scat (G : FVec Ideal S8x256x2048 .f32) (f : IVec S8x2048 32) (U : FVec Ideal S8x2048x2048 .f32) : FVec Ideal S8x256x2048 .f32 :=
  Host.scatterAdd scatter_S8x256x2048_S8x2048x2_S8x2048x2048_2_01_01_2 G (pairs f) U

/-- The grid after the four scatters. -/
def grid (X : FVec Ideal S8x2048x2048 .f32) (P : FVec Ideal S8x2048x2 .f32) : FVec Ideal S8x256x2048 .f32 :=
  scat (scat (scat (scat (broadcastInDim S8x256x2048 ![] bcast_S_S8x256x2048 (constant S_ .f32 0x00000000#32))
    (flat (lo (row P)) (lo (col P))) (contrib X (wLo (row P)) (wLo (col P))))
    (flat (lo (row P)) (hi (col P))) (contrib X (wLo (row P)) (wHi (col P))))
    (flat (hi (row P)) (lo (col P))) (contrib X (wHi (row P)) (wLo (col P))))
    (flat (hi (row P)) (hi (col P))) (contrib X (wHi (row P)) (wHi (col P)))

/-- The reference's result. -/
def out (X : FVec Ideal S8x2048x2048 .f32) (P : FVec Ideal S8x2048x2 .f32) (W : FVec Ideal S256x256 .f32) : FVec Ideal S8x256x2048 .f32 :=
  transpose S8x256x2048 [1, 0, 2] (Host.dotGeneral dot_S256x256_S8x256x2048_S256x8x2048_1_1_0_02_n_n none W (grid X P)) transposes_S256x8x2048_S8x256x2048_1_0_2

/-- The generated result term is `out` of the three arguments. -/
theorem res_eq (m : (ℓ : Loc nD τ sig) → Buf (Elt Ideal) ℓ) (c : Dev nD) :
    Cert.ReferenceIdeal.Value.res_main_v135 m c
      = out (m ((c.tc : Thread nD τ).loc main_arg0)) (m ((c.tc : Thread nD τ).loc main_arg1)) (m ((c.tc : Thread nD τ).loc main_arg2)) := by
  unfold Cert.ReferenceIdeal.Value.res_main_v135 out grid scat contrib pairs wrapped batch flat wLo wHi hi lo row col pos
  rfl

end Cert.Merge.Ref

end
-- ==== Proof.KernelBody.lean ====
/- The kernel's payload at one index: the channels mixed by the products of two hats. -/
module

public import proofs.«01_k».proof.Proof.Gen.KernelIdeal.Value
public import proofs.«01_k».proof.Proof.Consts

@[expose] public section

noncomputable section

namespace Cert.Merge.Ker

open Cert.KernelIdeal Cert.KernelIdeal.Gen Idealize.ShloMosaic

/-- The hat on extended reals, as the kernel writes it. -/
def ehat (p : EReal) (n : ℕ) : EReal := max (1 - max (p - ((n : ℝ) : EReal)) (-(p - ((n : ℝ) : EReal)))) 0

/-- The kernel's grid row of cell `g`, as the word it computes. -/
def rowWord (g : Fin 256) : BitVec 32 :=
  Scalar.select
    (IntOp.andi
      (IntOp.cmpi CmpIPredicate.ne
        (IntOp.subi (BitVec.setWidth 32 (IntOp.cmpi CmpIPredicate.sgt (BitVec.ofNat 32 g.val) 0#32))
          (BitVec.setWidth 32 (IntOp.cmpi CmpIPredicate.slt (BitVec.ofNat 32 g.val) 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector (BitVec.ofNat 32 g.val) 16#32) 0#32))
    (IntOp.subi (IntOp.divsi ArithUnit.vector (BitVec.ofNat 32 g.val) 16#32) 1#32)
    (IntOp.divsi ArithUnit.vector (BitVec.ofNat 32 g.val) 16#32)

/-- The divisor of the remainder, as the kernel selects it. -/
abbrev sixteen : BitVec 32 := Scalar.select (Scalar.cmpi CmpIPredicate.eq 16#32 0#32) 1#32 16#32

/-- The kernel's grid column of cell `g`, as the word it computes. -/
def colWord (g : Fin 256) : BitVec 32 :=
  Scalar.select
    (IntOp.andi
      (IntOp.xori (IntOp.cmpi CmpIPredicate.slt (IntOp.remsi ArithUnit.vector (BitVec.ofNat 32 g.val) sixteen) 0#32)
        (Scalar.cmpi CmpIPredicate.slt sixteen 0#32))
      (IntOp.cmpi CmpIPredicate.ne (IntOp.remsi ArithUnit.vector (BitVec.ofNat 32 g.val) sixteen) 0#32))
    (IntOp.addi (IntOp.remsi ArithUnit.vector (BitVec.ofNat 32 g.val) sixteen) sixteen)
    (IntOp.remsi ArithUnit.vector (BitVec.ofNat 32 g.val) sixteen)

/-- The row word is the quotient by 16, over all 256 cells. -/
theorem rowWord_toInt : ∀ g : Fin 256, (rowWord g).toInt = ((g.val / 16 : ℕ) : ℤ) := by decide +kernel

/-- The column word is the remainder by 16, over all 256 cells. -/
theorem colWord_toInt : ∀ g : Fin 256, (colWord g).toInt = ((g.val % 16 : ℕ) : ℤ) := by decide +kernel

/-- The row coordinates the kernel computes. -/
theorem pay2_apply (v0 : Vec Ideal S1x2048x2 .f32) (c : Fin 2048) :
    k0_pay2 (F := Ideal) v0 (ix2 c 0) = v0 (ix3 0 c 0) * ((8 : ℝ) : EReal) + ((8 : ℝ) : EReal) := by
  pointwise [k0_pay2, k0_pay1]
  rw [bits_eight]

/-- The column coordinates the kernel computes. -/
theorem pay3_apply (v0 : Vec Ideal S1x2048x2 .f32) (c : Fin 2048) :
    k0_pay3 (F := Ideal) v0 (ix2 c 0) = v0 (ix3 0 c 1) * ((8 : ℝ) : EReal) + ((8 : ℝ) : EReal) := by
  pointwise [k0_pay3, k0_pay1]
  rw [bits_eight]

/-- The grid rows as floats. -/
theorem pay4_apply (g : Fin 256) : k0_pay4 (F := Ideal) (ix2 0 g) = (((g.val / 16 : ℕ) : ℝ) : EReal) := by
  have e : k0_pay4 (F := Ideal) (ix2 0 g) = (((rowWord g).toInt : ℝ) : EReal) := by
    pointwise [k0_pay4]
    rfl
  rw [e, rowWord_toInt]
  norm_cast

/-- The kernel's payload at `(o, t)` of its block. -/
theorem pay6_apply (v0 : Vec Ideal S1x2048x2 .f32) (w : Vec Ideal S256x256 .f32) (x : Vec Ideal S1x2048x2048 .f32) (o : Fin 256) (t : Fin 2048) :
    k0_pay6 (F := Ideal) (k0_pay2 v0) (k0_pay3 v0) (k0_pay4 (F := Ideal)) sixteen k0_pay5 w x (ix3 0 o t)
      = ∑ c : Fin 2048, (∑ g : Fin 256, (ehat (v0 (ix3 0 c 0) * ((8 : ℝ) : EReal) + ((8 : ℝ) : EReal)) (g.val / 16)
          * ehat (v0 (ix3 0 c 1) * ((8 : ℝ) : EReal) + ((8 : ℝ) : EReal)) (g.val % 16)) * w (ix2 g o)) * x (ix3 0 c t) := by
  pointwise [k0_pay6]
  refine Finset.sum_congr rfl fun c _ => congrArg (· * x (ix3 0 c t)) (Finset.sum_congr rfl fun g _ => congrArg (· * w (ix2 g o)) ?_)
  have e5 : k0_pay5 (ix2 0 g) = IntOp.remsi ArithUnit.vector (BitVec.ofNat 32 g.val) sixteen := by
    pointwise [k0_pay5]
  rw [e5, pay2_apply, pay3_apply, pay4_apply]
  have ec : FloatOps.sitofp (F := Ideal) FTy.f32 (colWord g) = (((g.val % 16 : ℕ) : ℝ) : EReal) := by
    show (((colWord g).toInt : ℝ) : EReal) = _
    rw [colWord_toInt]
    norm_cast
  unfold ehat
  rw [← ec]
  rfl

end Cert.Merge.Ker

end
-- ==== Proof.KernelRun.lean ====
/- The kernel's result array after the run, index by index over the argument arrays. -/
module

public import proofs.«01_k».proof.Proof.KernelBody
public import Idealize.ShloMosaic.Lib.Pipeline.ValueKit

@[expose] public section

set_option maxRecDepth 16384

noncomputable section

namespace Cert.Merge.Ker

open Cert.KernelIdeal Cert.KernelIdeal.Gen Idealize.ShloMosaic Idealize.ShloMosaic.TcCoe Idealize.SL.Sem
open Idealize.ShloMosaic.Pipeline (Dat)

/-- The kernel's result as a function of the three argument arrays. -/
def out (X : FVec Ideal S8x2048x2048 .f32) (P : FVec Ideal S8x2048x2 .f32) (W : FVec Ideal S256x256 .f32) : FVec Ideal S8x256x2048 .f32 := fun j =>
  ∑ c : Fin 2048, (∑ g : Fin 256, (ehat (P (ix3 (j 0) c 0) * ((8 : ℝ) : EReal) + ((8 : ℝ) : EReal)) (g.val / 16)
      * ehat (P (ix3 (j 0) c 1) * ((8 : ℝ) : EReal) + ((8 : ℝ) : EReal)) (g.val % 16)) * W (ix2 (j 1) g)) * X (ix3 (j 0) c (j 2))

variable (m : (ℓ : Loc nD τ sig) → Buf (Elt Ideal) ℓ) (ρ : Dev nD → PrngReg)

/-- Every window but the weights' moves with the grid point along the batch axis. -/
theorem idx : ∀ t : Fin cfg0.N, win0_0.index t = ![(grid0.coords t 0).val, 0, 0] ∧ win0_1.index t = ![(grid0.coords t 0).val, 0, 0]
    ∧ win0_2.index t = ![0, 0] ∧ win0_3.index t = ![(grid0.coords t 0).val, 0, 0] :=
  (by decide +kernel : ∀ t : Fin grid0.N, win0_0.index t = ![(grid0.coords t 0).val, 0, 0] ∧ win0_1.index t = ![(grid0.coords t 0).val, 0, 0]
    ∧ win0_2.index t = ![0, 0] ∧ win0_3.index t = ![(grid0.coords t 0).val, 0, 0])

/-- The launch reads the weights through the array that the host transposed. -/
theorem entry_weights (c : Dev nD) : V m c main_call0_v0
    = (transpose S256x256 [1, 0] (m ((c : Thread nD τ).loc main_arg2) : FVec Ideal S256x256 .f32) transposes_S256x256_S256x256_1_0 : FVec Ideal S256x256 .f32) := by
  entry_read
  rfl

/-- The transposed weights at an index. -/
theorem weights_apply (W : FVec Ideal S256x256 .f32) (g o : Fin 256) :
    transpose S256x256 [1, 0] W transposes_S256x256_S256x256_1_0 (ix2 g o) = W (ix2 o g) := by
  pointwise

/-- The result array after the run is `out` of the argument arrays. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  obtain rfl : y0 = 0 := Subsingleton.elim _ _
  refine (pay6_apply _ _ _ y1 y2).trans ?_
  unfold out
  refine Finset.sum_congr rfl fun k _ => ?_
  refine congrArg₂ (· * ·) (Finset.sum_congr rfl fun g _ => congrArg₂ (· * ·) (congrArg₂ (· * ·) ?_ ?_) ?_) ?_
  · refine congrArg (fun z : EReal => ehat (z * ((8 : ℝ) : EReal) + ((8 : ℝ) : EReal)) (g.val / 16)) ?_
    blk_ext [iblk, V_main_arg1, idx t]
  · refine congrArg (fun z : EReal => ehat (z * ((8 : ℝ) : EReal) + ((8 : ℝ) : EReal)) (g.val % 16)) ?_
    blk_ext [iblk, V_main_arg1, idx t]
  · have e1 : iblk m c 2 t (ix2 g y1) = V m c main_call0_v0 (ix2 g y1) := by
      blk_ext [iblk, idx t]
    rw [e1, entry_weights, weights_apply]
    blk_ext [idx t]
  · blk_ext [iblk, V_main_arg0, idx t]

/-- The kernel's run: the result at `out` of the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.KernelIdeal.Value.run_blocks m ρ)

end Cert.Merge.Ker

end
-- ==== Proof.Scatter.lean ====
/- Where one update of the reference's scatters lands, and the scatter read at one grid cell. -/
module

public import proofs.«01_k».proof.Proof.RefTerm
public import Idealize.ShloMosaic.Lib.Routing.OpsPair

@[expose] public section

noncomputable section

namespace Cert.Merge.Ref

open Cert.ReferenceIdeal Cert.ReferenceIdeal.Gen Idealize.ShloMosaic

/-- The dimension numbers of the reference's scatters. -/
abbrev dims : ScatterDims S8x256x2048 S8x2048x2 S8x2048x2048 := scatter_S8x256x2048_S8x2048x2_S8x2048x2048_2_01_01_2

/-- The pairs' axes but the last. -/
theorem kept_si : dims.siKept = [0, 1] := by
  show (List.finRange 3).filter (fun x => decide (x.val ≠ 2)) = _
  rfl

/-- The grid's one window axis. -/
theorem kept_s : dims.sKept = [2] := by
  show S8x256x2048.kept [0, 1] = _
  rfl

/-- The updates' two scatter axes. -/
theorem kept_u : dims.uScatter = [0, 1] := by
  show S8x2048x2048.kept [2] = _
  rfl

/-- Component `k` of update `(b, c, t)`'s start is read at `(b, c, k)` of the pairs. -/
theorem siIdx_eq (b : Fin 8) (c : Fin 2048) (t : Fin 2048) (k : Fin 2) (k' : Fin dims.scatterDimsToOperandDims.length) (hk : k'.val = k.val) :
    dims.siIdx (ix3 b c t) k' = ix3 b c k := by
  have e : ∀ (l : List (Fin 3)) (n : ℕ) (h : n < l.length) (q : Fin 3), l = [0, 1] → n = q.val → q.val < 2 → l[n]'h = q := by
    intro l n h q hl hn hq
    subst hl
    subst hn
    fin_cases q
    · rfl
    · rfl
    · exact absurd hq (by decide)
  funext b'
  apply Fin.ext
  match b' with
  | ⟨0, _⟩ =>
    unfold ScatterDims.siIdx
    rw [dif_neg (by exact (by decide : (0 : ℕ) ≠ 2))]
    unfold ScatterDims.siCoord
    simp only [Fin.val_cast]
    rw [e _ _ _ 0 kept_u (by rw [kept_si]; rfl) (by decide)]
    rfl
  | ⟨1, _⟩ =>
    unfold ScatterDims.siIdx
    rw [dif_neg (by exact (by decide : (1 : ℕ) ≠ 2))]
    unfold ScatterDims.siCoord
    simp only [Fin.val_cast]
    rw [e _ _ _ 1 kept_u (by rw [kept_si]; rfl) (by decide)]
    rfl
  | ⟨2, _⟩ =>
    unfold ScatterDims.siIdx
    rw [dif_pos (show (2 : ℕ) = dims.indexVectorDim from rfl)]
    exact hk

/-- Update `(b', c, t')` lands at `(b, g, t)` exactly when its two index words are `b` and `g` and `t' = t`. -/
theorem lands (idx : IVec S8x2048x2 32) (b' : Fin 8) (c t' : Fin 2048) (b : Fin 8) (g : Fin 256) (t : Fin 2048) :
    dims.resultIdx? (ix3 b' c t') idx = some (ix3 b g t)
      ↔ (idx (ix3 b' c 0)).toInt = b.val ∧ (idx (ix3 b' c 1)).toInt = g.val ∧ t' = t := by
  have s0 : dims.start (ix3 b' c t') idx 0 = (idx (ix3 b' c 0)).toInt := by
    unfold ScatterDims.start
    have hm : (0 : Fin 3) ∈ dims.scatterDimsToOperandDims := by show (0 : Fin 3) ∈ [0, 1]; decide
    rw [dif_pos hm]
    exact congrArg (fun z => (idx z).toInt) (siIdx_eq b' c t' 0 _ rfl)
  have s1 : dims.start (ix3 b' c t') idx 1 = (idx (ix3 b' c 1)).toInt := by
    unfold ScatterDims.start
    have hm : (1 : Fin 3) ∈ dims.scatterDimsToOperandDims := by show (1 : Fin 3) ∈ [0, 1]; decide
    rw [dif_pos hm]
    exact congrArg (fun z => (idx z).toInt) (siIdx_eq b' c t' 1 _ rfl)
  have s2 : dims.start (ix3 b' c t') idx 2 = 0 := by
    unfold ScatterDims.start
    rw [dif_neg (by show (2 : Fin 3) ∉ [0, 1]; decide)]
  have w0 : dims.window (ix3 b' c t') 0 = 0 := by
    unfold ScatterDims.window
    rw [dif_neg (by rw [kept_s]; decide)]
  have w1 : dims.window (ix3 b' c t') 1 = 0 := by
    unfold ScatterDims.window
    rw [dif_neg (by rw [kept_s]; decide)]
  have w2 : dims.window (ix3 b' c t') 2 = t'.val := by
    unfold ScatterDims.window
    rw [dif_pos (by rw [kept_s]; decide)]
    rfl
  rw [Routing.resultIdx?_eq_some]
  constructor
  · intro h
    have h0 := h 0
    have h1 := h 1
    have h2 := h 2
    rw [s0, w0] at h0
    rw [s1, w1] at h1
    rw [s2, w2] at h2
    refine ⟨?_, ?_, Fin.ext ?_⟩
    · simpa using h0
    · simpa using h1
    · have : ((t'.val : ℕ) : ℤ) = (t.val : ℤ) := by simpa using h2
      exact_mod_cast this
  · rintro ⟨h0, h1, h2⟩ a
    match a with
    | ⟨0, _⟩ => show dims.start (ix3 b' c t') idx 0 + (dims.window (ix3 b' c t') 0 : ℤ) = _; rw [s0, w0, h0]; simp
    | ⟨1, _⟩ => show dims.start (ix3 b' c t') idx 1 + (dims.window (ix3 b' c t') 1 : ℤ) = _; rw [s1, w1, h1]; simp
    | ⟨2, _⟩ => show dims.start (ix3 b' c t') idx 2 + (dims.window (ix3 b' c t') 2 : ℤ) = _; rw [s2, w2, h2]; simp

/-- A scatter whose first index word is the batch adds, at `(b, g, t)`, the channels of batch `b` whose second word is `g`. -/
theorem scatter_apply (G : FVec Ideal S8x256x2048 .f32) (idx : IVec S8x2048x2 32) (U : FVec Ideal S8x2048x2048 .f32)
    (hb : ∀ (b : Fin 8) (c : Fin 2048), (idx (ix3 b c 0)).toInt = b.val) (b : Fin 8) (g : Fin 256) (t : Fin 2048) :
    Host.scatterAdd dims G idx U (ix3 b g t)
      = G (ix3 b g t) + ∑ c : Fin 2048, if (idx (ix3 b c 1)).toInt = (g.val : ℤ) then U (ix3 b c t) else 0 := by
  show G (ix3 b g t) + ∑ j ∈ Finset.univ.filter (fun j => dims.resultIdx? j idx = some (ix3 b g t)), U j = _
  congr 1
  rw [← Finset.sum_filter]
  refine Finset.sum_bij' (fun j _ => (j 1 : Fin 2048)) (fun c _ => ix3 b c t) ?_ ?_ ?_ ?_ ?_
  · intro j hj
    obtain ⟨b', c, t', rfl⟩ : ∃ (b' : Fin 8) (c t' : Fin 2048), j = ix3 b' c t' := ⟨j 0, j 1, j 2, eq_ix3 j⟩
    have h := (lands idx b' c t' b g t).1 (Finset.mem_filter.1 hj).2
    rw [hb] at h
    obtain rfl : b' = b := Fin.ext (by exact_mod_cast h.1)
    exact Finset.mem_filter.2 ⟨Finset.mem_univ _, h.2.1⟩
  · intro c hc
    exact Finset.mem_filter.2 ⟨Finset.mem_univ _, (lands idx b c t b g t).2 ⟨hb b c, (Finset.mem_filter.1 hc).2, rfl⟩⟩
  · intro j hj
    obtain ⟨b', c, t', rfl⟩ : ∃ (b' : Fin 8) (c t' : Fin 2048), j = ix3 b' c t' := ⟨j 0, j 1, j 2, eq_ix3 j⟩
    have h := (lands idx b' c t' b g t).1 (Finset.mem_filter.1 hj).2
    rw [hb] at h
    obtain rfl : b' = b := Fin.ext (by exact_mod_cast h.1)
    obtain rfl := h.2.2
    rfl
  · intro c _
    rfl
  · intro j hj
    obtain ⟨b', c, t', rfl⟩ : ∃ (b' : Fin 8) (c t' : Fin 2048), j = ix3 b' c t' := ⟨j 0, j 1, j 2, eq_ix3 j⟩
    have h := (lands idx b' c t' b g t).1 (Finset.mem_filter.1 hj).2
    rw [hb] at h
    obtain rfl : b' = b := Fin.ext (by exact_mod_cast h.1)
    obtain rfl := h.2.2
    rfl

end Cert.Merge.Ref

end
-- ==== Proof.Hat.lean ====
/- Real arithmetic behind the merger: a triangular (hat) weight is a pair of linear interpolation weights, and the two orders of summation agree. -/
module

public import Idealize.ShloMosaic.PureOps.Ideal

@[expose] public section

noncomputable section

namespace Cert.Merge

/-- The hat of half-width 1 around `r`, at `p`: the weight the kernel gives to grid line `r`. -/
def hat (p r : ℝ) : ℝ := max (1 - |p - r|) 0

/-- At an integer line the hat is what linear interpolation gives that line: `1 - frac` if it is the line below `p`, plus `frac` if it is the line above. -/
theorem hat_eq (p : ℝ) (r : ℤ) :
    hat p r = (if ⌊p⌋ = r then 1 - (p - ⌊p⌋) else 0) + (if ⌈p⌉ = r then p - ⌊p⌋ else 0) := by
  unfold hat
  have h1 := Int.floor_le p
  have h2 := Int.lt_floor_add_one p
  by_cases hr : ⌊p⌋ = r
  · subst hr
    rw [if_pos rfl, abs_of_nonneg (by linarith), max_eq_left (by linarith)]
    by_cases hc : ⌈p⌉ = ⌊p⌋
    · rw [if_pos hc]
      have h3 := Int.le_ceil p
      rw [hc] at h3
      linarith
    · rw [if_neg hc, add_zero]
  · rw [if_neg hr, zero_add]
    by_cases hc : ⌈p⌉ = r
    · rw [if_pos hc]
      have h3 : ⌈p⌉ = ⌊p⌋ + 1 := by
        have h4 := Int.ceil_le_floor_add_one p
        have h5 := Int.floor_le_ceil p
        omega
      have h6 : (r : ℝ) = ⌊p⌋ + 1 := by rw [← hc, h3]; push_cast; ring
      rw [h6, abs_of_nonpos (by linarith), max_eq_left (by linarith)]
      ring
    · rw [if_neg hc]
      apply max_eq_right
      rcases lt_or_gt_of_ne hr with h | h
      · have h3 : ⌈p⌉ < r := lt_of_le_of_ne (by have := Int.ceil_le_floor_add_one p; omega) hc
        have h4 : (⌈p⌉ : ℝ) + 1 ≤ r := by exact_mod_cast h3
        have h5 := Int.le_ceil p
        rw [abs_of_nonpos (by linarith)]
        linarith
      · have h4 : (r : ℝ) + 1 ≤ ⌊p⌋ := by exact_mod_cast h
        rw [abs_of_nonneg (by linarith)]
        linarith

/-- A product of two one-axis interpolations is the four-corner interpolation at the flat cell `16 r + s`, for a column within its 16 lines. -/
theorem corner_eq (p q : ℝ) (g : ℕ) (hq : 0 ≤ q ∧ q ≤ 15) :
    hat p ((g / 16 : ℕ) : ℤ) * hat q ((g % 16 : ℕ) : ℤ)
      = (if ⌊p⌋ * 16 + ⌊q⌋ = (g : ℤ) then (1 - (p - ⌊p⌋)) * (1 - (q - ⌊q⌋)) else 0)
        + (if ⌊p⌋ * 16 + ⌈q⌉ = (g : ℤ) then (1 - (p - ⌊p⌋)) * (q - ⌊q⌋) else 0)
        + (if ⌈p⌉ * 16 + ⌊q⌋ = (g : ℤ) then (p - ⌊p⌋) * (1 - (q - ⌊q⌋)) else 0)
        + (if ⌈p⌉ * 16 + ⌈q⌉ = (g : ℤ) then (p - ⌊p⌋) * (q - ⌊q⌋) else 0) := by
  have key : ∀ a b : ℤ, 0 ≤ b → b ≤ 15 →
      (a * 16 + b = (g : ℤ) ↔ a = ((g / 16 : ℕ) : ℤ) ∧ b = ((g % 16 : ℕ) : ℤ)) := by
    intro a b h0 h1
    omega
  have f0 : 0 ≤ ⌊q⌋ := Int.floor_nonneg.2 hq.1
  have f1 : ⌊q⌋ ≤ 15 := by
    have := Int.floor_le_floor hq.2
    simpa using this
  have c0 : 0 ≤ ⌈q⌉ := le_trans f0 (Int.floor_le_ceil q)
  have c1 : ⌈q⌉ ≤ 15 := Int.ceil_le.2 (by exact_mod_cast hq.2)
  rw [hat_eq, hat_eq, if_congr (key _ _ f0 f1) rfl rfl, if_congr (key _ _ c0 c1) rfl rfl, if_congr (key _ _ f0 f1) rfl rfl,
    if_congr (key _ _ c0 c1) rfl rfl]
  simp only [ite_and]
  split_ifs <;> ring

/-- A finite sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Mixing the grid after four scatters is mixing each channel's weights first: for real inputs on the grid the two programs' sums are one number. -/
theorem mix_eq {n : ℕ} (w : Fin 256 → ℝ) (x p q : Fin n → ℝ) (hq : ∀ c, 0 ≤ q c ∧ q c ≤ 15) :
    ∑ c, (∑ g : Fin 256, (hat (p c) ((g.val / 16 : ℕ) : ℤ) * hat (q c) ((g.val % 16 : ℕ) : ℤ)) * w g) * x c
      = ∑ g : Fin 256, w g *
          ((((0 + ∑ c, (if ⌊p c⌋ * 16 + ⌊q c⌋ = (g.val : ℤ) then x c * ((1 - (p c - ⌊p c⌋)) * (1 - (q c - ⌊q c⌋))) else 0))
            + ∑ c, (if ⌊p c⌋ * 16 + ⌈q c⌉ = (g.val : ℤ) then x c * ((1 - (p c - ⌊p c⌋)) * (q c - ⌊q c⌋)) else 0))
            + ∑ c, (if ⌈p c⌉ * 16 + ⌊q c⌋ = (g.val : ℤ) then x c * ((p c - ⌊p c⌋) * (1 - (q c - ⌊q c⌋))) else 0))
            + ∑ c, (if ⌈p c⌉ * 16 + ⌈q c⌉ = (g.val : ℤ) then x c * ((p c - ⌊p c⌋) * (q c - ⌊q c⌋)) else 0)) := by
  simp only [zero_add, ← Finset.sum_add_distrib, Finset.mul_sum, Finset.sum_mul]
  rw [Finset.sum_comm]
  refine Finset.sum_congr rfl fun g _ => Finset.sum_congr rfl fun c _ => ?_
  rw [corner_eq _ _ _ (hq c)]
  split_ifs <;> ring

end Cert.Merge

end
-- ==== Proof.RefValue.lean ====
/- The reference's result at one index, for real inputs whose positions lie on the grid. -/
module

public import proofs.«01_k».proof.Proof.Scatter
public import proofs.«01_k».proof.Proof.Hat

@[expose] public section

noncomputable section

namespace Cert.Merge.Ref

open Cert.ReferenceIdeal Cert.ReferenceIdeal.Gen Idealize.ShloMosaic

/-- The batch component of every pair is the batch. -/
theorem pairs_zero (f : IVec S8x2048 32) (b : Fin 8) (c : Fin 2048) : (pairs f (ix3 b c 0)).toInt = b.val := by
  pointwise [pairs, batch]
  rw [Routing.wrap_of_lt _ _ (by rw [BitVec.toNat_ofNat]; omega)]
  fin_cases b <;> rfl

/-- The cell component of a pair, where the cell's word is a small natural number. -/
theorem pairs_one (f : IVec S8x2048 32) (b : Fin 8) (c : Fin 2048) (n : ℕ) (hn : n < 2 ^ 31) (hf : f (ix2 b c) = BitVec.ofNat 32 n) :
    (pairs f (ix3 b c 1)).toInt = n := by
  pointwise [pairs, wrapped]
  rw [hf, Routing.wrap_of_lt _ _ (by rw [BitVec.toNat_ofNat]; omega), BitVec.toInt_eq_toNat_cond, BitVec.toNat_ofNat]
  omega

/-- The flat cell's word, where the two lines' words are small natural numbers. -/
theorem flat_apply (i j : IVec S8x2048 32) (b : Fin 8) (c : Fin 2048) (k l : ℕ)
    (hi : i (ix2 b c) = BitVec.ofNat 32 k) (hj : j (ix2 b c) = BitVec.ofNat 32 l) :
    flat i j (ix2 b c) = BitVec.ofNat 32 (k * 16 + l) := by
  pointwise [flat]
  rw [hi, hj]
  show (0#32 + BitVec.ofNat 32 k * 16#32) + BitVec.ofNat 32 l * 1#32 = _
  simp [BitVec.ofNat_add, BitVec.ofNat_mul]

/-- A row coordinate is `8 p + 8`. -/
theorem row_apply (P : FVec Ideal S8x2048x2 .f32) (b : Fin 8) (c : Fin 2048) (p : ℝ) (h : P (ix3 b c 0) = (p : EReal)) :
    row P (ix2 b c) = ((p * 8 + 8 : ℝ) : EReal) := by
  pointwise [row, pos]
  rw [h, bits_sixteen, bits_two, Ideal.div_coe (by norm_num), ← EReal.coe_one, ← EReal.coe_add, ← EReal.coe_mul, ← EReal.coe_mul]
  congr 1
  ring

/-- A column coordinate is `8 p + 8`. -/
theorem col_apply (P : FVec Ideal S8x2048x2 .f32) (b : Fin 8) (c : Fin 2048) (p : ℝ) (h : P (ix3 b c 1) = (p : EReal)) :
    col P (ix2 b c) = ((p * 8 + 8 : ℝ) : EReal) := by
  pointwise [col, pos]
  rw [h, bits_sixteen, bits_two, Ideal.div_coe (by norm_num), ← EReal.coe_one, ← EReal.coe_add, ← EReal.coe_mul, ← EReal.coe_mul]
  congr 1
  ring

section Line

variable (d : FVec Ideal S8x2048 .f32) (b : Fin 8) (c : Fin 2048) (p : ℝ) (h : d (ix2 b c) = (p : EReal)) (h0 : 0 ≤ p) (h1 : p ≤ (far : ℤ))

include h0 h1 in
/-- The line below a coordinate within the bounds is within them. -/
theorem floor_mem : 0 ≤ ⌊p⌋ ∧ ⌊p⌋ ≤ far := by
  refine ⟨Int.floor_nonneg.2 h0, ?_⟩
  have h2 : (⌊p⌋ : ℝ) ≤ (far : ℤ) := (Int.floor_le p).trans h1
  exact_mod_cast h2

include h0 h1 in
/-- The line above a coordinate within the bounds is within them. -/
theorem ceil_mem : 0 ≤ ⌈p⌉ ∧ ⌈p⌉ ≤ far :=
  ⟨(floor_mem p h0 h1).1.trans (Int.floor_le_ceil p), Int.ceil_le.2 h1⟩

include h h0 h1

/-- The word of the line below. -/
theorem lo_apply : lo d (ix2 b c) = BitVec.ofNat 32 ⌊p⌋.toNat := by
  have hm := floor_mem p h0 h1
  pointwise [lo]
  rw [h, Ideal.liftRound_coe]
  exact fptosi_eq _ hm.1 hm.2

/-- The word of the line above. -/
theorem hi_apply : hi d (ix2 b c) = BitVec.ofNat 32 ⌈p⌉.toNat := by
  have hm := ceil_mem p h0 h1
  pointwise [hi]
  rw [h, Ideal.liftRound_coe]
  exact fptosi_eq _ hm.1 hm.2

/-- The upper line's weight is the fraction. -/
theorem wHi_apply : wHi d (ix2 b c) = ((p - ⌊p⌋ : ℝ) : EReal) := by
  have hm := floor_mem p h0 h1
  show d (ix2 b c) - (((lo d (ix2 b c)).toInt : ℝ) : EReal) = _
  have e : (lo d (ix2 b c)).toInt = ⌊p⌋ := by
    pointwise [lo]
    rw [h, Ideal.liftRound_coe]
    exact toInt_fptosi _ hm.1 hm.2
  rw [e, h, ← EReal.coe_sub]

/-- The lower line's weight is one minus the fraction. -/
theorem wLo_apply : wLo d (ix2 b c) = ((1 - (p - ⌊p⌋) : ℝ) : EReal) := by
  have e : wLo d (ix2 b c) = 1 - wHi d (ix2 b c) := by
    pointwise [wLo]
  rw [e, wHi_apply d b c p h h0 h1, ← EReal.coe_one, ← EReal.coe_sub]

end Line

/-- One scatter read at a cell, for real contributions and lines within the bounds. -/
theorem scat_apply (G : FVec Ideal S8x256x2048 .f32) (i j : IVec S8x2048 32) (X : FVec Ideal S8x2048x2048 .f32) (w v : FVec Ideal S8x2048 .f32)
    (b : Fin 8) (g : Fin 256) (t : Fin 2048) (k l : Fin 2048 → ℤ) (x w' v' : Fin 2048 → ℝ) (s : ℝ)
    (hG : G (ix3 b g t) = (s : EReal))
    (hk : ∀ c, 0 ≤ k c ∧ k c ≤ far) (hl : ∀ c, 0 ≤ l c ∧ l c ≤ far)
    (hi : ∀ c, i (ix2 b c) = BitVec.ofNat 32 (k c).toNat) (hj : ∀ c, j (ix2 b c) = BitVec.ofNat 32 (l c).toNat)
    (hX : ∀ c, X (ix3 b c t) = (x c : EReal)) (hw : ∀ c, w (ix2 b c) = (w' c : EReal)) (hv : ∀ c, v (ix2 b c) = (v' c : EReal)) :
    scat G (flat i j) (contrib X w v) (ix3 b g t)
      = ((s + ∑ c, (if k c * 16 + l c = (g.val : ℤ) then x c * (w' c * v' c) else 0) : ℝ) : EReal) := by
  show Host.scatterAdd dims G (pairs (flat i j)) (contrib X w v) (ix3 b g t) = _
  rw [scatter_apply G _ _ (fun b c => pairs_zero _ b c), EReal.coe_add, coe_sum, hG]
  refine congrArg (fun z => (s : EReal) + z) (Finset.sum_congr rfl fun c _ => ?_)
  have e1 := pairs_one (flat i j) b c ((k c).toNat * 16 + (l c).toNat) (by have := hk c; have := hl c; unfold far at *; omega)
    (flat_apply i j b c _ _ (hi c) (hj c))
  have e2 : (((k c).toNat * 16 + (l c).toNat : ℕ) : ℤ) = k c * 16 + l c := by
    have := hk c; have := hl c; omega
  have e3 : contrib X w v (ix3 b c t) = ((x c * (w' c * v' c) : ℝ) : EReal) := by
    pointwise [contrib]
    rw [hX, hw, hv, EReal.coe_mul, EReal.coe_mul]
  rw [e1, e2, e3]
  split_ifs <;> simp

/-- The reference's result at an index: every channel mixed by the hats of its position. -/
theorem out_apply (X : FVec Ideal S8x2048x2048 .f32) (P : FVec Ideal S8x2048x2 .f32) (W : FVec Ideal S256x256 .f32)
    (b : Fin 8) (o : Fin 256) (t : Fin 2048) (x p q : Fin 2048 → ℝ) (w : Fin 256 → ℝ)
    (hX : ∀ c, X (ix3 b c t) = (x c : EReal)) (hW : ∀ g, W (ix2 o g) = (w g : EReal))
    (hP : ∀ c, P (ix3 b c 0) = (p c : EReal)) (hQ : ∀ c, P (ix3 b c 1) = (q c : EReal))
    (hp : ∀ c, 0 ≤ p c * 8 + 8 ∧ p c * 8 + 8 ≤ (far : ℤ)) (hq : ∀ c, 0 ≤ q c * 8 + 8 ∧ q c * 8 + 8 ≤ 15) :
    out X P W (ix3 b o t)
      = ((∑ c, (∑ g : Fin 256, (hat (p c * 8 + 8) ((g.val / 16 : ℕ) : ℤ) * hat (q c * 8 + 8) ((g.val % 16 : ℕ) : ℤ)) * w g) * x c : ℝ) : EReal) := by
  have hq' : ∀ c, q c * 8 + 8 ≤ (far : ℤ) := fun c => (hq c).2.trans (by norm_num [far])
  have hr := fun c => row_apply P b c _ (hP c)
  have hc := fun c => col_apply P b c _ (hQ c)
  have rl := fun c => lo_apply (row P) b c _ (hr c) (hp c).1 (hp c).2
  have rh := fun c => hi_apply (row P) b c _ (hr c) (hp c).1 (hp c).2
  have cl := fun c => lo_apply (col P) b c _ (hc c) (hq c).1 (hq' c)
  have ch := fun c => hi_apply (col P) b c _ (hc c) (hq c).1 (hq' c)
  have wrl := fun c => wLo_apply (row P) b c _ (hr c) (hp c).1 (hp c).2
  have wrh := fun c => wHi_apply (row P) b c _ (hr c) (hp c).1 (hp c).2
  have wcl := fun c => wLo_apply (col P) b c _ (hc c) (hq c).1 (hq' c)
  have wch := fun c => wHi_apply (col P) b c _ (hc c) (hq c).1 (hq' c)
  have mrl := fun c => floor_mem _ (hp c).1 (hp c).2
  have mrh := fun c => ceil_mem _ (hp c).1 (hp c).2
  have mcl := fun c => floor_mem _ (hq c).1 (hq' c)
  have mch := fun c => ceil_mem _ (hq c).1 (hq' c)
  have h1 := fun g : Fin 256 => scat_apply (broadcastInDim S8x256x2048 ![] bcast_S_S8x256x2048 (constant S_ .f32 0x00000000#32))
    (lo (row P)) (lo (col P)) X (wLo (row P)) (wLo (col P)) b g t (fun c => ⌊p c * 8 + 8⌋) (fun c => ⌊q c * 8 + 8⌋) x
    (fun c => 1 - (p c * 8 + 8 - ⌊p c * 8 + 8⌋)) (fun c => 1 - (q c * 8 + 8 - ⌊q c * 8 + 8⌋)) 0
    (by pointwise; rw [EReal.coe_zero]) mrl mcl rl cl hX wrl wcl
  have h2 := fun g : Fin 256 => scat_apply _ (lo (row P)) (hi (col P)) X (wLo (row P)) (wHi (col P)) b g t (fun c => ⌊p c * 8 + 8⌋) (fun c => ⌈q c * 8 + 8⌉) x
    (fun c => 1 - (p c * 8 + 8 - ⌊p c * 8 + 8⌋)) (fun c => q c * 8 + 8 - ⌊q c * 8 + 8⌋) _ (h1 g) mrl mch rl ch hX wrl wch
  have h3 := fun g : Fin 256 => scat_apply _ (hi (row P)) (lo (col P)) X (wHi (row P)) (wLo (col P)) b g t (fun c => ⌈p c * 8 + 8⌉) (fun c => ⌊q c * 8 + 8⌋) x
    (fun c => p c * 8 + 8 - ⌊p c * 8 + 8⌋) (fun c => 1 - (q c * 8 + 8 - ⌊q c * 8 + 8⌋)) _ (h2 g) mrh mcl rh cl hX wrh wcl
  have h4 := fun g : Fin 256 => scat_apply _ (hi (row P)) (hi (col P)) X (wHi (row P)) (wHi (col P)) b g t (fun c => ⌈p c * 8 + 8⌉) (fun c => ⌈q c * 8 + 8⌉) x
    (fun c => p c * 8 + 8 - ⌊p c * 8 + 8⌋) (fun c => q c * 8 + 8 - ⌊q c * 8 + 8⌋) _ (h3 g) mrh mch rh ch hX wrh wch
  have e : out X P W (ix3 b o t) = ∑ g, W (ix2 o g) * grid X P (ix3 b g t) := by
    pointwise [out]
  rw [e, mix_eq w x _ _ hq, coe_sum]
  refine Finset.sum_congr rfl fun g _ => ?_
  rw [hW, EReal.coe_mul]
  exact congrArg _ (h4 g)

end Cert.Merge.Ref

end
-- ==== Proof.Pre.lean ====
/- What the precondition says of the three arrays, element by element. -/
module

public import proofs.«01_k».proof.Pre_on_the_grid
public import proofs.«01_k».proof.Proof.Consts
public import Idealize.ShloMosaic.Lib.WordArith

@[expose] public section

noncomputable section

namespace Cert.Merge.Pre

open Cert.Pre_on_the_grid Idealize.ShloMosaic Idealize.ShloMosaic.WordArith

/-- The shape facts that the precondition's function states. -/
instance facts : Cert.Pre_on_the_grid.Facts where
  bcast_S_S8x2048x2048 := by decide
  bcast_S_S8x2048x2 := by decide
  slices_S8x2048x2_S8x2048x1_0_0_1 := by decide
  shapeCasts_S8x2048x1_S8x2048 := by decide
  bcast_S_S8x2048 := by decide
  bcast_S_S256x256 := by decide

/-- A number whose magnitude is below plus infinity is a real. -/
theorem real_of_abs (z : EReal) (h : max z (-z) < ⊤) : ∃ r : ℝ, z = (r : EReal) := by
  induction z with
  | bot => simp at h
  | top => simp at h
  | coe r => exact ⟨r, rfl⟩

/-- A number between two reals is a real between them. -/
theorem real_of_between (z : EReal) (a b : ℝ) (ha : (a : EReal) ≤ z) (hb : z ≤ (b : EReal)) :
    ∃ r : ℝ, z = (r : EReal) ∧ a ≤ r ∧ r ≤ b := by
  induction z with
  | bot => simp at ha
  | top => simp at hb
  | coe r => exact ⟨r, rfl, EReal.coe_le_coe_iff.1 ha, EReal.coe_le_coe_iff.1 hb⟩

variable (X : FVec Ideal S8x2048x2048 .f32) (P : FVec Ideal S8x2048x2 .f32) (W : FVec Ideal S256x256 .f32)

/-- Every channel is a real. -/
theorem channels (h : (fn (F := Ideal) X P W).1 = fun _ => 1#1) (b : Fin 8) (c t : Fin 2048) :
    ∃ r : ℝ, X (ix3 b c t) = (r : EReal) := by
  have h' := congrFun h (ix3 b c t)
  pointwise [fn] at h'
  rw [ofBool_eq_one_iff, decide_eq_true_eq, bits_top] at h'
  exact real_of_abs _ h'

/-- Every position is a real from minus one to two to the 23rd. -/
theorem positions (h : (fn (F := Ideal) X P W).2.1 = fun _ => 1#1) (b : Fin 8) (c : Fin 2048) (d : Fin 2) :
    ∃ r : ℝ, P (ix3 b c d) = (r : EReal) ∧ -1 ≤ r ∧ r ≤ 8388608 := by
  have h' := congrFun h (ix3 b c d)
  pointwise [fn] at h'
  rw [andi_ofBool, ofBool_eq_one_iff, Bool.and_eq_true, decide_eq_true_eq, decide_eq_true_eq, bits_far,
    bits_neg_one] at h'
  exact real_of_between _ _ _ h'.1 h'.2

/-- No column lies past the last grid line. -/
theorem columns (h : (fn (F := Ideal) X P W).2.2.1 = fun _ => 1#1) (b : Fin 8) (c : Fin 2048) :
    P (ix3 b c 1) ≤ ((7 / 8 : ℝ) : EReal) := by
  have h' := congrFun h (ix2 b c)
  pointwise [fn] at h'
  rw [ofBool_eq_one_iff, decide_eq_true_eq, bits_seven_eighths] at h'
  exact h'

/-- Every grid weight is a real. -/
theorem weights (h : (fn (F := Ideal) X P W).2.2.2 = fun _ => 1#1) (o g : Fin 256) :
    ∃ r : ℝ, W (ix2 o g) = (r : EReal) := by
  have h' := congrFun h (ix2 o g)
  pointwise [fn] at h'
  rw [ofBool_eq_one_iff, decide_eq_true_eq, bits_top] at h'
  exact real_of_abs _ h'

end Cert.Merge.Pre

end
-- ==== Proof.Equation.lean ====
/- Under the precondition the two programs' results are one array. -/
module

public import proofs.«01_k».proof.Proof.KernelRun
public import proofs.«01_k».proof.Proof.RefValue
public import proofs.«01_k».proof.Proof.Pre

@[expose] public section

noncomputable section

namespace Cert.Merge

open Idealize.ShloMosaic Cert.KernelIdeal

/-- The kernel's hat of a real is the real hat. -/
theorem ehat_coe (p : ℝ) (n : ℕ) : Ker.ehat (p : EReal) n = ((hat p ((n : ℕ) : ℤ) : ℝ) : EReal) := by
  have hm : ∀ a b : ℝ, ((max a b : ℝ) : EReal) = max (a : EReal) (b : EReal) := fun a b => EReal.coe_strictMono.monotone.map_max
  unfold Ker.ehat hat
  rw [Int.cast_natCast, hm, EReal.coe_sub, abs_eq_max_neg, hm, EReal.coe_neg, EReal.coe_sub, EReal.coe_one, EReal.coe_zero]

/-- The kernel's result at an index, for real inputs. -/
theorem Ker.out_apply (X : FVec Ideal S8x2048x2048 .f32) (P : FVec Ideal S8x2048x2 .f32) (W : FVec Ideal S256x256 .f32)
    (b : Fin 8) (o : Fin 256) (t : Fin 2048) (x p q : Fin 2048 → ℝ) (w : Fin 256 → ℝ)
    (hX : ∀ c, X (ix3 b c t) = (x c : EReal)) (hW : ∀ g, W (ix2 o g) = (w g : EReal))
    (hP : ∀ c, P (ix3 b c 0) = (p c : EReal)) (hQ : ∀ c, P (ix3 b c 1) = (q c : EReal)) :
    Ker.out X P W (ix3 b o t)
      = ((∑ c, (∑ g : Fin 256, (hat (p c * 8 + 8) ((g.val / 16 : ℕ) : ℤ) * hat (q c * 8 + 8) ((g.val % 16 : ℕ) : ℤ)) * w g) * x c : ℝ) : EReal) := by
  rw [coe_sum]
  refine Finset.sum_congr rfl fun c _ => ?_
  rw [EReal.coe_mul, coe_sum]
  refine congrArg₂ (· * ·) (Finset.sum_congr rfl fun g _ => ?_) (hX c)
  rw [EReal.coe_mul, EReal.coe_mul, ← ehat_coe, ← ehat_coe, EReal.coe_add, EReal.coe_mul, EReal.coe_add, EReal.coe_mul, ← hP, ← hQ, ← hW]
  rfl

/-- Under the precondition the reference's result is the kernel's. -/
theorem out_eq (X : FVec Ideal S8x2048x2048 .f32) (P : FVec Ideal S8x2048x2 .f32) (W : FVec Ideal S256x256 .f32)
    (h1 : (Cert.Pre_on_the_grid.fn (F := Ideal) X P W).1 = fun _ => 1#1)
    (h2 : (Cert.Pre_on_the_grid.fn (F := Ideal) X P W).2.1 = fun _ => 1#1)
    (h3 : (Cert.Pre_on_the_grid.fn (F := Ideal) X P W).2.2.1 = fun _ => 1#1)
    (h4 : (Cert.Pre_on_the_grid.fn (F := Ideal) X P W).2.2.2 = fun _ => 1#1) :
    Ref.out X P W = Ker.out X P W := by
  funext j
  obtain ⟨b, o, t, rfl⟩ : ∃ (b : Fin 8) (o : Fin 256) (t : Fin 2048), j = ix3 b o t := ⟨j 0, j 1, j 2, eq_ix3 j⟩
  choose x hX using fun c => Pre.channels X P W h1 b c t
  choose w hW using fun g => Pre.weights X P W h4 o g
  choose p hP hp0 hp1 using fun c => Pre.positions X P W h2 b c 0
  choose q hQ hq0 _ using fun c => Pre.positions X P W h2 b c 1
  have hq1 : ∀ c, q c ≤ 7 / 8 := fun c => by
    have := Pre.columns X P W h3 b c
    rw [hQ] at this
    exact EReal.coe_le_coe_iff.1 this
  rw [Ker.out_apply X P W b o t x p q w hX hW hP hQ]
  refine Ref.out_apply X P W b o t x p q w hX hW hP hQ (fun c => ⟨?_, ?_⟩) (fun c => ⟨?_, ?_⟩)
  · linarith [hp0 c]
  · have := hp1 c
    norm_num [far]
    linarith
  · linarith [hq0 c]
  · linarith [hq1 c]

end Cert.Merge

end
-- ==== Proof.lean ====
module

public import proofs.«01_k».proof.Defs
public import proofs.«01_k».proof.Proof.Gen.Kernel.Frame
public import proofs.«01_k».proof.Proof.RefTerm
public import proofs.«01_k».proof.Proof.Equation
public import Idealize.ShloMosaic.Adequacy
public import Idealize.ShloMosaic.Init

@[expose] public section

noncomputable section

namespace Cert.Proof

open Idealize.ShloMosaic Idealize.SL.Sem

/-- The reference runs, keeps its arguments, and has no semaphore to leave raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the grid, the kernel's result and the reference's are one array. -/
theorem results_equal : Cert.algebraic_KernelIdeal_ReferenceIdeal_pre_on_the_grid (hKernelIdeal := Cert.KernelIdeal.Gen.facts)
    (hReferenceIdeal := Cert.ReferenceIdeal.Gen.facts) (hPre_on_the_grid := Cert.Merge.Pre.facts) := by
  intro m ρ m' ρ' hpre hagree
  refine ⟨_, Cert.Merge.Ker.run m ρ, (θ_run Cert.ReferenceIdeal.defs _ _).mono (fun r h c => ⟨(h c).1.trans ?_, (h c).2⟩)
    (Cert.ReferenceIdeal.Value.run (F := Ideal) m' ρ')⟩
  rw [Cert.Merge.Ref.res_eq, (hagree c).1, (hagree c).2.1, (hagree c).2.2]
  exact Cert.Merge.out_eq _ _ _ (hpre c).1 (hpre c).2.1 (hpre c).2.2.1 (hpre c).2.2.2

/-- Every claim of the certificate. -/
theorem claim : Cert.Claim :=
  ⟨Cert.Kernel.Gen.facts, Cert.KernelIdeal.Gen.facts, Cert.ReferenceIdeal.Gen.facts, Cert.Merge.Pre.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results_equal⟩

end Cert.Proof

end
